-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_not_negative [hPre_labels_not_negative : Cert.Pre_labels_not_negative.Facts] (m : (ℓ : Loc Cert.KernelIdeal.nD Cert.KernelIdeal.τ Cert.KernelIdeal.sig) → Buf (Elt Ideal) ℓ) : Prop :=
  ∀ c : Dev Cert.KernelIdeal.nD,
    (Cert.Pre_labels_not_negative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_not_negative [hPre_labels_not_negative : Cert.Pre_labels_not_negative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_not_negative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_labels_not_negative [hKernelIdeal : Cert.KernelIdeal.Facts] [hPre_labels_not_negative : Cert.Pre_labels_not_negative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_not_negative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_labels_not_negative [hReferenceIdeal : Cert.ReferenceIdeal.Facts] [hPre_labels_not_negative : Cert.Pre_labels_not_negative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_not_negative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_labels_not_negative [hKernelIdeal : Cert.KernelIdeal.Facts] [hReferenceIdeal : Cert.ReferenceIdeal.Facts] [hPre_labels_not_negative : Cert.Pre_labels_not_negative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_not_negative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_labels_not_negative : Cert.Pre_labels_not_negative.Facts),
    quiescent_Kernel (hKernel := hKernel)
    ∧ quiescent_KernelIdeal (hKernelIdeal := hKernelIdeal)
    ∧ quiescent_KernelIdeal_pre_labels_not_negative (hKernelIdeal := hKernelIdeal) (hPre_labels_not_negative := hPre_labels_not_negative)
    ∧ quiescent_ReferenceIdeal (hReferenceIdeal := hReferenceIdeal)
    ∧ quiescent_ReferenceIdeal_pre_labels_not_negative (hReferenceIdeal := hReferenceIdeal) (hPre_labels_not_negative := hPre_labels_not_negative)
    ∧ preserves_Kernel_KernelIdeal
    ∧ algebraic_KernelIdeal_ReferenceIdeal_pre_labels_not_negative (hKernelIdeal := hKernelIdeal) (hReferenceIdeal := hReferenceIdeal) (hPre_labels_not_negative := hPre_labels_not_negative)
-- ==== Pre_labels_not_negative.lean ====
abbrev S4096x64x14x14 : Shape := ⟨4, ![4096, 64, 14, 14]⟩
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S4096x64x14x14 .f32) (main_arg1 : IVec S4096 32) : IVec S_ 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 1 := constantI S_ 1 1#1
  let main_v2 : IVec S_ 1 := (fun x v => Host.reduce IntOp.andi x v reducesTo_S4096_S_d0 h_S_) main_v1 main_c_0
  main_v2
-- ==== Kernel.lean ====
abbrev S4096x64x14x14 : Shape := ⟨4, ![4096, 64, 14, 14]⟩
abbrev S4096 : Shape := ⟨1, ![4096]⟩
abbrev S14x14x64x4096 : Shape := ⟨4, ![14, 14, 64, 4096]⟩
abbrev S12544x4096 : Shape := ⟨2, ![12544, 4096]⟩
abbrev S4096x1 : Shape := ⟨2, ![4096, 1]⟩
abbrev S12544x1000 : Shape := ⟨2, ![12544, 1000]⟩
abbrev S896x4096 : Shape := ⟨2, ![896, 4096]⟩
abbrev S896x1000 : Shape := ⟨2, ![896, 1000]⟩
abbrev S4096x1024 : Shape := ⟨2, ![4096, 1024]⟩
abbrev S1x1024 : Shape := ⟨2, ![1, 1024]⟩
abbrev S1024x1 : Shape := ⟨2, ![1024, 1]⟩
abbrev S1024x1024 : Shape := ⟨2, ![1024, 1024]⟩
abbrev S1024 : Shape := ⟨1, ![1024]⟩
abbrev S448x4096 : Shape := ⟨2, ![448, 4096]⟩
abbrev S448x1024 : Shape := ⟨2, ![448, 1024]⟩
abbrev S448x1000 : Shape := ⟨2, ![448, 1000]⟩
abbrev S14x14x64x1000 : Shape := ⟨4, ![14, 14, 64, 1000]⟩
abbrev S1000x64x14x14 : Shape := ⟨4, ![1000, 64, 14, 14]⟩

abbrev nBuf : Space → Nat
  | .hbm => 8
  | .vmem => 7
  | .smem => 0
  | _ => 0

abbrev bufTy : (tb : Table) → Fin (tcTables nBuf tb) → BufTy
  | .hbm, ⟨0, _⟩ => ⟨S4096x64x14x14, .f32⟩
  | .hbm, ⟨1, _⟩ => ⟨S4096, .i32⟩
  | .hbm, ⟨2, _⟩ => ⟨S14x14x64x4096, .f32⟩
  | .hbm, ⟨3, _⟩ => ⟨S12544x4096, .f32⟩
  | .hbm, ⟨4, _⟩ => ⟨S4096x1, .i32⟩
  | .hbm, ⟨5, _⟩ => ⟨S12544x1000, .f32⟩
  | .hbm, ⟨6, _⟩ => ⟨S14x14x64x1000, .f32⟩
  | .hbm, ⟨7, _⟩ => ⟨S1000x64x14x14, .f32⟩
  | .local _ .vmem, ⟨0, _⟩ => ⟨S896x4096, .f32⟩
  | .local _ .vmem, ⟨1, _⟩ => ⟨S896x4096, .f32⟩
  | .local _ .vmem, ⟨2, _⟩ => ⟨S4096x1, .i32⟩
  | .local _ .vmem, ⟨3, _⟩ => ⟨S896x1000, .f32⟩
  | .local _ .vmem, ⟨4, _⟩ => ⟨S896x1000, .f32⟩
  | .local _ .vmem, ⟨5, _⟩ => ⟨S4096x1024, .bf16⟩
  | .local _ .vmem, ⟨6, _⟩ => ⟨S1x1024, .f32⟩
  | _, _ => ⟨S4096x64x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S896x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S896x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x64x14x14 : Shape := ⟨4, ![4096, 64, 14, 14]⟩
abbrev S4096 : Shape := ⟨1, ![4096]⟩
abbrev S_ : Shape := ⟨0, ![]⟩
abbrev S1000x64x14x14 : Shape := ⟨4, ![1000, 64, 14, 14]⟩
abbrev S4096x1 : Shape := ⟨2, ![4096, 1]⟩
abbrev S1000 : Shape := ⟨1, ![1000]⟩
abbrev S1000x1x1x1 : Shape := ⟨4, ![1000, 1, 1, 1]⟩

abbrev nBuf : Space → Nat
  | .hbm => 41
  | .vmem => 0
  | .smem => 0
  | _ => 0

abbrev bufTy : (tb : Table) → Fin (tcTables nBuf tb) → BufTy
  | .hbm, ⟨0, _⟩ => ⟨S4096x64x14x14, .f32⟩
  | .hbm, ⟨1, _⟩ => ⟨S4096, .i32⟩
  | .hbm, ⟨2, _⟩ => ⟨S_, .f32⟩
  | .hbm, ⟨3, _⟩ => ⟨S1000x64x14x14, .f32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S4096x1, .i32⟩
  | .hbm, ⟨12, _⟩ => ⟨S1000x64x14x14, .f32⟩
  | .hbm, ⟨13, _⟩ => ⟨S_, .i32⟩
  | .hbm, ⟨14, _⟩ => ⟨S1000, .i32⟩
  | .hbm, ⟨15, _⟩ => ⟨S_, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S4096x1, .i32⟩
  | .hbm, ⟨27, _⟩ => ⟨S_, .i32⟩
  | .hbm, ⟨28, _⟩ => ⟨S4096, .i32⟩
  | .hbm, ⟨29, _⟩ => ⟨S1000, .i32⟩
  | .hbm, ⟨30, _⟩ => ⟨S1000, .f32⟩
  | .hbm, ⟨31, _⟩ => ⟨S_, .f32⟩
  | .hbm, ⟨32, _⟩ => ⟨S1000, .f32⟩
  | .hbm, ⟨33, _⟩ => ⟨S1000, .i1⟩
  | .hbm, ⟨34, _⟩ => ⟨S_, .f32⟩
  | .hbm, ⟨35, _⟩ => ⟨S_, .f32⟩
  | .hbm, ⟨36, _⟩ => ⟨S1000, .f32⟩
  | .hbm, ⟨37, _⟩ => ⟨S1000, .f32⟩
  | .hbm, ⟨38, _⟩ => ⟨S1000x1x1x1, .f32⟩
  | .hbm, ⟨39, _⟩ => ⟨S1000x64x14x14, .f32⟩
  | .hbm, ⟨40, _⟩ => ⟨S1000x64x14x14, .f32⟩
  | _, _ => ⟨S4096x64x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_c_2 : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_c_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_call1_v0 : Ref sig .tc := ⟨.hbm, 35, rfl⟩
abbrev main_call1_v1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== Proof.Tally.lean ====
/- The mathematics both programs meet in: the samples of one class, how many they are, their sum and
   their mean, over the extended reals. Nothing here names a program. -/
module

public import Idealize.ShloMosaic.PureOps
public import Idealize.ShloMosaic.PureOps.Ideal.Laws
public import Idealize.ShloMosaic.Lib.Pointwise

@[expose] public section

noncomputable section

namespace Cert.ClassMean

open Idealize.ShloMosaic

/-- How many of the 4096 samples carry the label `c`. -/
def tally (lab : Fin 4096 → BitVec 32) (c : ℕ) : ℕ :=
  (Finset.univ.filter fun n => (lab n).toInt = (c : ℤ)).card

/-- The sum of `f` over the samples that carry the label `c`. -/
def classSum (lab : Fin 4096 → BitVec 32) (c : ℕ) (f : Fin 4096 → EReal) : EReal :=
  ∑ n, if (lab n).toInt = (c : ℤ) then f n else 0

/-- The mean of `f` over the samples that carry the label `c`; a class without samples divides by one. -/
def classMean (lab : Fin 4096 → BitVec 32) (c : ℕ) (f : Fin 4096 → EReal) : EReal :=
  classSum lab c f * ((1 / ((max (tally lab c) 1 : ℕ) : ℝ) : ℝ) : EReal)

/-- One entry of the one-hot matrix: whether the label `w` is `c`. -/
def mark (w : BitVec 32) (c : ℕ) : EReal := if w.toInt = (c : ℤ) then 1 else 0

/-- There are at most as many samples of a class as samples. -/
theorem tally_le (lab : Fin 4096 → BitVec 32) (c : ℕ) : tally lab c ≤ 4096 :=
  (Finset.card_le_univ _).trans (by rw [Fintype.card_fin])

/-- A product with the one-hot column of class `c` sums the samples of that class: `x · 0 = 0` at the infinities too. -/
theorem sum_mul_mark (lab : Fin 4096 → BitVec 32) (c : ℕ) (f : Fin 4096 → EReal) :
    ∑ n, f n * mark (lab n) c = classSum lab c f := by
  refine Finset.sum_congr rfl fun n _ => ?_
  unfold mark
  by_cases h : (lab n).toInt = (c : ℤ)
  · rw [if_pos h, if_pos h, mul_one]
  · rw [if_neg h, if_neg h, mul_zero]

/-- The one-hot column of class `c` sums to the number of its samples. -/
theorem sum_mark (lab : Fin 4096 → BitVec 32) (c : ℕ) : ∑ n, mark (lab n) c = ((tally lab c : ℝ) : EReal) := by
  unfold mark tally
  rw [Finset.sum_boole, EReal.coe_natCast]

/-- A sum over the 4096 samples, taken in four runs of 1024, one after the other. -/
theorem sum_four (g : Fin 4096 → EReal) :
    (((∑ r : Fin 1024, g ⟨r.val, by omega⟩) + ∑ r : Fin 1024, g ⟨1024 + r.val, by omega⟩)
        + ∑ r : Fin 1024, g ⟨2048 + r.val, by omega⟩) + ∑ r : Fin 1024, g ⟨3072 + r.val, by omega⟩ = ∑ n, g n := by
  rw [show ∑ n, g n = _ from Fin.sum_univ_add (a := 1024 + 1024 + 1024) (b := 1024) g, Fin.sum_univ_add (a := 1024 + 1024) (b := 1024),
    Fin.sum_univ_add (a := 1024) (b := 1024)]
  rfl

/-- One over the number of samples of a class, at least one: a real number. -/
theorem recip_tally (lab : Fin 4096 → BitVec 32) (c : ℕ) :
    Ideal.div 1 (max ((tally lab c : ℝ) : EReal) 1) = ((1 / ((max (tally lab c) 1 : ℕ) : ℝ) : ℝ) : EReal) := by
  have e : max ((tally lab c : ℝ) : EReal) 1 = (((max (tally lab c) 1 : ℕ) : ℝ) : EReal) := by
    rw [show (1 : EReal) = ((1 : ℝ) : EReal) from rfl, ← EReal.coe_strictMono.monotone.map_max]
    push_cast
    rfl
  have h : (((max (tally lab c) 1 : ℕ) : ℝ)) ≠ 0 := by
    have : 1 ≤ max (tally lab c) 1 := le_max_right _ _
    exact_mod_cast (by omega : max (tally lab c) 1 ≠ 0)
  rw [e, Ideal.div_coe h, one_mul]

/-- Dividing the class's sum by its number of samples, or by one where it has none, is the mean. -/
theorem div_tally (lab : Fin 4096 → BitVec 32) (c : ℕ) (s : EReal) :
    Ideal.div s (if tally lab c = 0 then 1 else ((tally lab c : ℝ) : EReal))
      = s * ((1 / ((max (tally lab c) 1 : ℕ) : ℝ) : ℝ) : EReal) := by
  by_cases h : tally lab c = 0
  · rw [if_pos h, h, show (1 : EReal) = ((1 : ℝ) : EReal) from rfl, Ideal.div_coe one_ne_zero]
    norm_num
  · rw [if_neg h, Ideal.div_coe (by exact_mod_cast h), max_eq_left (by omega)]

end Cert.ClassMean

end
-- ==== Proof.Payloads.lean ====
/- The values the kernel's body stores, read at an index: a piece of the one-hot matrix, the
   reciprocals of the class sizes, and a half of an output block. -/
module

public import proofs.«01_k».proof.Proof.Tally
public import proofs.«01_k».proof.Proof.Gen.KernelIdeal.Skeleton
public import Idealize.ShloMosaic.Lib.Affine

@[expose] public section

set_option maxRecDepth 16384

noncomputable section

namespace Cert.ClassMean

open Idealize.ShloMosaic Cert.KernelIdeal Cert.KernelIdeal.Gen

/-- A label is the word of a small class number exactly when, read signed, it is that number. -/
theorem eq_word_iff (w : BitVec 32) (c : ℕ) (hc : c < 1024) : w = BitVec.ofNat 32 c ↔ w.toInt = (c : ℤ) := by
  have e : (BitVec.ofNat 32 c).toInt = (c : ℤ) := by
    rw [BitVec.toInt_eq_toNat_of_lt] <;> rw [BitVec.toNat_ofNat, Nat.mod_eq_of_lt (by omega)]
    omega
  rw [← BitVec.toInt_inj, e]

/-- The comparison of a label with a class number, as a float, is the one-hot entry. -/
theorem mark_of_cmp (w : BitVec 32) (c : ℕ) (hc : c < 1024) :
    FloatOps.sitofp (F := Ideal) .f32 (BitVec.setWidth 32 (IntOp.cmpi .eq w (BitVec.ofNat 32 c))) = mark w c := by
  unfold mark
  by_cases h : w = BitVec.ofNat 32 c
  · have e : IntOp.cmpi .eq w (BitVec.ofNat 32 c) = 1#1 := by rw [h]; exact IntOp.cmpi_eq.2 rfl
    rw [if_pos ((eq_word_iff w c hc).1 h), e]
    show ((((BitVec.setWidth 32 1#1).toInt : ℤ) : ℝ) : EReal) = 1
    rw [show (BitVec.setWidth 32 1#1).toInt = 1 by decide, Int.cast_one, EReal.coe_one]
  · have e : IntOp.cmpi .eq w (BitVec.ofNat 32 c) = 0#1 := by
      rcases BitVec.eq_zero_or_eq_one (IntOp.cmpi .eq w (BitVec.ofNat 32 c)) with q | q
      · exact q
      · exact absurd (IntOp.cmpi_eq.1 q) h
    rw [if_neg (fun q => h ((eq_word_iff w c hc).2 q)), e]
    show ((((BitVec.setWidth 32 0#1).toInt : ℤ) : ℝ) : EReal) = 0
    rw [show (BitVec.setWidth 32 0#1).toInt = 0 by decide, Int.cast_zero, EReal.coe_zero]

/-- The first quarter of the one-hot matrix as it is counted, at an index. -/
theorem pay7_apply (v : Vec Ideal S1024x1 .i32) (r l : Fin 1024) : k0_pay7 (F := Ideal) v (ix2 r l) = mark (v (ix2 r 0)) l.val := by
  pointwise [k0_pay7]
  exact mark_of_cmp _ _ l.isLt

/-- The second quarter. -/
theorem pay9_apply (v : Vec Ideal S1024x1 .i32) (r l : Fin 1024) : k0_pay9 (F := Ideal) v (ix2 r l) = mark (v (ix2 r 0)) l.val := by
  pointwise [k0_pay9]
  exact mark_of_cmp _ _ l.isLt

/-- The third quarter. -/
theorem pay11_apply (v : Vec Ideal S1024x1 .i32) (r l : Fin 1024) : k0_pay11 (F := Ideal) v (ix2 r l) = mark (v (ix2 r 0)) l.val := by
  pointwise [k0_pay11]
  exact mark_of_cmp _ _ l.isLt

/-- The fourth quarter, given the class numbers as the body keeps them. -/
theorem pay2_apply (v : Vec Ideal S1024x1 .i32) (r l : Fin 1024) :
    k0_pay2 (F := Ideal) (iota .tc S1x1024 32 [1] iota_S1x1024_d1_w32) v (ix2 r l) = mark (v (ix2 r 0)) l.val := by
  pointwise [k0_pay2]
  exact mark_of_cmp _ _ l.isLt

/-- The first quarter as it is stored. -/
theorem pay8_apply (v : Vec Ideal S1024x1 .i32) (r l : Fin 1024) : k0_pay8 (F := Ideal) v (ix2 r l) = mark (v (ix2 r 0)) l.val := by
  pointwise [k0_pay8]
  exact pay7_apply v r l

/-- The second quarter as it is stored. -/
theorem pay10_apply (v : Vec Ideal S1024x1 .i32) (r l : Fin 1024) : k0_pay10 (F := Ideal) v (ix2 r l) = mark (v (ix2 r 0)) l.val := by
  pointwise [k0_pay10]
  exact pay9_apply v r l

/-- The third quarter as it is stored. -/
theorem pay13_apply (v : Vec Ideal S1024x1 .i32) (r l : Fin 1024) :
    k0_pay1 (k0_pay13 (F := Ideal) v) (ix2 r l) = mark (v (ix2 r 0)) l.val := by
  pointwise [k0_pay13, k0_pay1]
  exact pay11_apply v r l

/-- The fourth quarter as it is stored. -/
theorem pay3_apply (v : Vec Ideal S1024x1 .i32) (r l : Fin 1024) :
    k0_pay3 (F := Ideal) (iota .tc S1x1024 32 [1] iota_S1x1024_d1_w32) v (ix2 r l) = mark (v (ix2 r 0)) l.val := by
  pointwise [k0_pay3]
  exact pay2_apply v r l

/-- The class sizes over the first three quarters of the samples. -/
theorem pay12_apply (u v w : Vec Ideal S1024x1 .i32) (l : Fin 1024) :
    k0_pay12 (F := Ideal) u v w (ix2 0 l)
      = ((∑ r : Fin 1024, mark (u (ix2 r 0)) l.val) + ∑ r : Fin 1024, mark (v (ix2 r 0)) l.val) + ∑ r : Fin 1024, mark (w (ix2 r 0)) l.val := by
  simp only [← pay7_apply u, ← pay9_apply v, ← pay11_apply w]
  pointwise [k0_pay12]

/-- The reciprocals of the class sizes, each at least one, as they are stored: `s` is what the first three quarters counted. -/
theorem pay4_apply (s : FVec Ideal S1x1024 .f32) (v : Vec Ideal S1024x1 .i32) (l : Fin 1024) :
    k0_pay4 (F := Ideal) (iota .tc S1x1024 32 [1] iota_S1x1024_d1_w32) s v (ix2 0 l)
      = Ideal.div 1 (max (s (ix2 0 l) + ∑ r : Fin 1024, mark (v (ix2 r 0)) l.val) 1) := by
  simp only [← pay2_apply v]
  pointwise [k0_pay4]
  try rfl

/-- The upper half of an output block: the samples' sums times the stored reciprocal. -/
theorem pay5_apply (I : Vec Ideal S1x1024 .f32) (X : Vec Ideal S448x4096 .f32) (P : Vec Ideal S4096x1024 .bf16) (r : Fin 448) (c : Fin 1000) :
    k0_pay5 (F := Ideal) I X P (ix2 r c) = (∑ n : Fin 4096, X (ix2 r n) * P (ix2 n ⟨c.val, by omega⟩)) * I (ix2 0 ⟨c.val, by omega⟩) := by
  pointwise [k0_pay5]

/-- The lower half. -/
theorem pay6_apply (I : Vec Ideal S1x1024 .f32) (X : Vec Ideal S448x4096 .f32) (P : Vec Ideal S4096x1024 .bf16) (r : Fin 448) (c : Fin 1000) :
    k0_pay6 (F := Ideal) I X P (ix2 r c) = (∑ n : Fin 4096, X (ix2 r n) * P (ix2 n ⟨c.val, by omega⟩)) * I (ix2 0 ⟨c.val, by omega⟩) := by
  pointwise [k0_pay6]

end Cert.ClassMean

end
-- ==== Proof.Body.lean ====
/- What the body leaves behind, case by case: the first point fills the one-hot matrix and the
   reciprocals; every point stores its block of the means from them. -/
module

public import proofs.«01_k».proof.Proof.Payloads
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.ClassMean

open Idealize.ShloMosaic Idealize.ShloMosaic.TcCoe Cert.KernelIdeal Cert.KernelIdeal.Gen

/-- The one-hot matrix of a column of labels. -/
def onehot (x1 : Vec Ideal S4096x1 .i32) : Vec Ideal S4096x1024 .bf16 := fun j => mark (x1 (ix2 (j 0) 0)) (j 1).val

/-- One over each class's size, at least one. -/
def recips (x1 : Vec Ideal S4096x1 .i32) : Vec Ideal S1x1024 .f32 :=
  fun j => ((1 / ((max (tally (fun n => x1 (ix2 n 0)) (j 1).val) 1 : ℕ) : ℝ) : ℝ) : EReal)

/-- An output block from a block of samples, a matrix and a row of factors: the product's first 1000 columns, each times its factor. -/
def block (x0 : Vec Ideal S896x4096 .f32) (P : Vec Ideal S4096x1024 .bf16) (I : Vec Ideal S1x1024 .f32) : Vec Ideal S896x1000 .f32 :=
  fun j => (∑ n : Fin 4096, x0 (ix2 (j 0) n) * P (ix2 n ⟨(j 1).val, by have : (j 1).val < 1000 := (j 1).isLt; omega⟩))
    * I (ix2 0 ⟨(j 1).val, by have : (j 1).val < 1000 := (j 1).isLt; omega⟩)

/-- The four stored quarters of the one-hot matrix, put together. -/
theorem onehot_pieces (x1 : Vec Ideal S4096x1 .i32) :
    (View.canon (Val := Elt Ideal) (e := .bf16)
      [⟨Rect.unit ![3072, 0] ![1024, 1024] inb_S4096x1024_S1024x1024_3072_0,
          k0_pay3 (F := Ideal) (iota Kind.tc S1x1024 32 [1] iota_S1x1024_d1_w32)
            (View.ld x1 (Rect.unit ![3072, 0] ![1024, 1] inb_S4096x1_S1024x1_3072_0))⟩,
        ⟨Rect.unit ![2048, 0] ![1024, 1024] inb_S4096x1024_S1024x1024_2048_0,
          k0_pay1 (F := Ideal) (k0_pay13 (View.ld x1 (Rect.unit ![2048, 0] ![1024, 1] inb_S4096x1_S1024x1_2048_0)))⟩,
        ⟨Rect.unit ![1024, 0] ![1024, 1024] inb_S4096x1024_S1024x1024_1024_0,
          k0_pay10 (F := Ideal) (View.ld x1 (Rect.unit ![1024, 0] ![1024, 1] inb_S4096x1_S1024x1_1024_0))⟩,
        ⟨Rect.unit ![0, 0] ![1024, 1024] inb_S4096x1024_S1024x1024_0_0,
          k0_pay8 (F := Ideal) (View.ld x1 (Rect.unit ![0, 0] ![1024, 1] inb_S4096x1_S1024x1_0_0))⟩] : Vec Ideal S4096x1024 .bf16)
      = onehot x1 := by
  funext y
  canon_tiles x h
  all_goals
    idx_vars x
    idx_vars y
    first
      | rw [pay3_apply]
      | rw [pay13_apply]
      | rw [pay10_apply]
      | rw [pay8_apply]
    unfold onehot
    pointwise
    simp only [← h0, ← h1]

/-- The stored reciprocals, from the four quarters of the labels. -/
theorem recips_value (x1 : Vec Ideal S4096x1 .i32) :
    k0_pay4 (F := Ideal) (iota Kind.tc S1x1024 32 [1] iota_S1x1024_d1_w32)
      (k0_pay12 (View.ld x1 (Rect.unit ![0, 0] ![1024, 1] inb_S4096x1_S1024x1_0_0))
        (View.ld x1 (Rect.unit ![1024, 0] ![1024, 1] inb_S4096x1_S1024x1_1024_0))
        (View.ld x1 (Rect.unit ![2048, 0] ![1024, 1] inb_S4096x1_S1024x1_2048_0)))
      (View.ld x1 (Rect.unit ![3072, 0] ![1024, 1] inb_S4096x1_S1024x1_3072_0))
      = recips x1 := by
  funext y
  obtain ⟨a, l, rfl⟩ : ∃ (a : Fin 1) (l : Fin 1024), y = ix2 a l := ⟨y 0, y 1, eq_ix2 y⟩
  obtain rfl : a = 0 := Subsingleton.elim _ _
  rw [pay4_apply, pay12_apply]
  pointwise
  rw [sum_four fun n => mark (x1 (ix2 n 0)) l.val, sum_mark fun n => x1 (ix2 n 0), recip_tally]
  rfl

/-- The two stored halves of an output block, put together. -/
theorem block_pieces (x0 : Vec Ideal S896x4096 .f32) (P : Vec Ideal S4096x1024 .bf16) (I : Vec Ideal S1x1024 .f32) :
    (View.canon (Val := Elt Ideal) (e := .f32)
      [⟨Rect.unit ![448, 0] ![448, 1000] inb_S896x1000_S448x1000_448_0,
          k0_pay6 (F := Ideal) I (View.ld x0 (Rect.unit ![448, 0] ![448, 4096] inb_S896x4096_S448x4096_448_0)) P⟩,
        ⟨Rect.unit ![0, 0] ![448, 1000] inb_S896x1000_S448x1000_0_0,
          k0_pay5 (F := Ideal) I (View.ld x0 (Rect.unit ![0, 0] ![448, 4096] inb_S896x4096_S448x4096_0_0)) P⟩] : Vec Ideal S896x1000 .f32)
      = block x0 P I := by
  funext y
  canon_tiles x h
  all_goals
    idx_vars x
    idx_vars y
    first
      | rw [pay6_apply]
      | rw [pay5_apply]
    unfold block
    pointwise
    simp only [← h0, ← h1]

/-- A later point's output block, from what the scratch holds. -/
theorem out_B (c : Dev nD) (i : grid0.Coords) (arg1 : Memref sig .tc .vmem S896x4096 .f32) (harg1 : arg1.IsWhole) (arg2 : Memref sig .tc .vmem S4096x1 .i32) (harg2 : arg2.IsWhole) (arg3 : Memref sig .tc .vmem S896x1000 .f32) (harg3 : arg3.IsWhole) (arg4 : Memref sig .tc .vmem S4096x1024 .bf16) (harg4 : arg4.IsWhole) (arg5 : Memref sig .tc .vmem S1x1024 .f32) (harg5 : arg5.IsWhole) (hc0 : ¬cond0_0 i)
    (x0 : Vec Ideal S896x4096 .f32) (x1 : Vec Ideal S4096x1 .i32) (P : Vec Ideal S4096x1024 .bf16) (I : Vec Ideal S1x1024 .f32) :
    out0_B_2 c i arg1 harg1 arg2 harg2 arg3 harg3 arg4 harg4 arg5 harg5 hc0 x0 x1 P I = block x0 P I := by
  funext y
  frame_out
  exact congrFun (block_pieces x0 P I) y

/-- The first point fills the one-hot matrix. -/
theorem sout_A0 (c : Dev nD) (i : grid0.Coords) (arg1 : Memref sig .tc .vmem S896x4096 .f32) (harg1 : arg1.IsWhole) (arg2 : Memref sig .tc .vmem S4096x1 .i32) (harg2 : arg2.IsWhole) (arg3 : Memref sig .tc .vmem S896x1000 .f32) (harg3 : arg3.IsWhole) (arg4 : Memref sig .tc .vmem S4096x1024 .bf16) (harg4 : arg4.IsWhole) (arg5 : Memref sig .tc .vmem S1x1024 .f32) (harg5 : arg5.IsWhole) (hc0 : cond0_0 i)
    (x0 : Vec Ideal S896x4096 .f32) (x1 : Vec Ideal S4096x1 .i32) :
    sout0_A_0 c i arg1 harg1 arg2 harg2 arg3 harg3 arg4 harg4 arg5 harg5 hc0 x0 x1 = onehot x1 := by
  funext y
  frame_out
  exact congrFun (onehot_pieces x1) y

/-- The first point fills the reciprocals of the class sizes. -/
theorem sout_A1 (c : Dev nD) (i : grid0.Coords) (arg1 : Memref sig .tc .vmem S896x4096 .f32) (harg1 : arg1.IsWhole) (arg2 : Memref sig .tc .vmem S4096x1 .i32) (harg2 : arg2.IsWhole) (arg3 : Memref sig .tc .vmem S896x1000 .f32) (harg3 : arg3.IsWhole) (arg4 : Memref sig .tc .vmem S4096x1024 .bf16) (harg4 : arg4.IsWhole) (arg5 : Memref sig .tc .vmem S1x1024 .f32) (harg5 : arg5.IsWhole) (hc0 : cond0_0 i)
    (x0 : Vec Ideal S896x4096 .f32) (x1 : Vec Ideal S4096x1 .i32) :
    sout0_A_1 c i arg1 harg1 arg2 harg2 arg3 harg3 arg4 harg4 arg5 harg5 hc0 x0 x1 = recips x1 := by
  funext y
  frame_out
  exact congrFun (recips_value x1) y

/-- The first point's output block, from the scratch as it has just filled it. -/
theorem out_A (c : Dev nD) (i : grid0.Coords) (arg1 : Memref sig .tc .vmem S896x4096 .f32) (harg1 : arg1.IsWhole) (arg2 : Memref sig .tc .vmem S4096x1 .i32) (harg2 : arg2.IsWhole) (arg3 : Memref sig .tc .vmem S896x1000 .f32) (harg3 : arg3.IsWhole) (arg4 : Memref sig .tc .vmem S4096x1024 .bf16) (harg4 : arg4.IsWhole) (arg5 : Memref sig .tc .vmem S1x1024 .f32) (harg5 : arg5.IsWhole) (hc0 : cond0_0 i)
    (x0 : Vec Ideal S896x4096 .f32) (x1 : Vec Ideal S4096x1 .i32) :
    out0_A_2 c i arg1 harg1 arg2 harg2 arg3 harg3 arg4 harg4 arg5 harg5 hc0 x0 x1 = block x0 (onehot x1) (recips x1) := by
  funext y
  frame_out
  rw [recips_value, View.readCov_eq_canon', onehot_pieces]
  have e : (fun j => onehot x1 ((Rect.unit ![0, 0] ![4096, 1024] inb_S4096x1024_S4096x1024_0_0).idx j)) = onehot x1 :=
    View.ld_unit_lit inb_S4096x1024_S4096x1024_0_0 (onehot x1) (by decide)
  rw [e, block_pieces]

end Cert.ClassMean

end
-- ==== Proof.Landing.lean ====
/- Where the reference's two scatters put an update, and what they leave at an element: the sum, and
   the number, of the samples whose label is that element's class. -/
module

public import proofs.«01_k».proof.Proof.Tally
public import proofs.«01_k».proof.Proof.Gen.ReferenceIdeal
public import Idealize.ShloMosaic.Lib.Routing.OpsPair

@[expose] public section

set_option maxRecDepth 16384

noncomputable section

namespace Cert.ClassMean

open Idealize.ShloMosaic Cert.ReferenceIdeal Cert.ReferenceIdeal.Gen

/-- The scatter of the samples, by its dimension numbers. -/
abbrev dSum := scatter_S1000x64x14x14_S4096x1_S4096x64x14x14_123_0_0_1
/-- The scatter of ones, by its dimension numbers. -/
abbrev dOne := scatter_S1000_S4096x1_S4096_n_0_0_1

/-- On the class axis, update `(n, k, h, w)` starts at sample `n`'s label. -/
theorem dSum_start0 (idx : IVec S4096x1 32) (n : Fin 4096) (k : Fin 64) (h w : Fin 14) :
    dSum.start (ix4 n k h w) idx 0 = (idx (ix2 n 0)).toInt := by
  unfold ScatterDims.start
  rw [dif_pos (by decide)]
  refine congrArg (fun i => (idx i).toInt) (funext fun b => Fin.ext ?_)
  match b with
  | ⟨0, _⟩ => rfl
  | ⟨1, _⟩ => rfl

/-- On the class axis, update `n` of the scatter of ones starts at sample `n`'s label. -/
theorem dOne_start0 (idx : IVec S4096x1 32) (n : Fin 4096) : dOne.start (ix1 n) idx 0 = (idx (ix2 n 0)).toInt := by
  unfold ScatterDims.start
  rw [dif_pos (by decide)]
  refine congrArg (fun i => (idx i).toInt) (funext fun b => Fin.ext ?_)
  match b with
  | ⟨0, _⟩ => rfl
  | ⟨1, _⟩ => rfl

/-- Update `(n, k, h, w)` lands at `(c, k', h', w')` exactly when sample `n`'s label is `c` and the other coordinates agree. -/
theorem dSum_lands (idx : IVec S4096x1 32) (n : Fin 4096) (k k' : Fin 64) (h w h' w' : Fin 14) (c : Fin 1000) :
    dSum.resultIdx? (ix4 n k h w) idx = some (ix4 c k' h' w')
      ↔ (idx (ix2 n 0)).toInt = (c.val : ℤ) ∧ k = k' ∧ h = h' ∧ w = w' := by
  rw [Routing.resultIdx?_eq_some]
  have e0 := dSum_start0 idx n k h w
  have w0 : dSum.window (ix4 n k h w) 0 = 0 := rfl
  have s1 : dSum.start (ix4 n k h w) idx 1 = 0 := rfl
  have s2 : dSum.start (ix4 n k h w) idx 2 = 0 := rfl
  have s3 : dSum.start (ix4 n k h w) idx 3 = 0 := rfl
  have w1 : dSum.window (ix4 n k h w) 1 = k.val := rfl
  have w2 : dSum.window (ix4 n k h w) 2 = h.val := rfl
  have w3 : dSum.window (ix4 n k h w) 3 = w.val := rfl
  constructor
  · intro q
    have q0 := q 0
    have q1 := q 1
    have q2 := q 2
    have q3 := q 3
    rw [e0, w0] at q0
    rw [s1, w1] at q1
    rw [s2, w2] at q2
    rw [s3, w3] at q3
    change _ = (c.val : ℤ) at q0
    change _ = (k'.val : ℤ) at q1
    change _ = (h'.val : ℤ) at q2
    change _ = (w'.val : ℤ) at q3
    exact ⟨by omega, Fin.ext (by omega), Fin.ext (by omega), Fin.ext (by omega)⟩
  · rintro ⟨q, rfl, rfl, rfl⟩ a
    match a with
    | ⟨0, _⟩ => show dSum.start (ix4 n k h w) idx 0 + (dSum.window (ix4 n k h w) 0 : ℤ) = (c.val : ℤ); rw [e0, w0]; omega
    | ⟨1, _⟩ => show dSum.start (ix4 n k h w) idx 1 + (dSum.window (ix4 n k h w) 1 : ℤ) = (k.val : ℤ); rw [s1, w1]; omega
    | ⟨2, _⟩ => show dSum.start (ix4 n k h w) idx 2 + (dSum.window (ix4 n k h w) 2 : ℤ) = (h.val : ℤ); rw [s2, w2]; omega
    | ⟨3, _⟩ => show dSum.start (ix4 n k h w) idx 3 + (dSum.window (ix4 n k h w) 3 : ℤ) = (w.val : ℤ); rw [s3, w3]; omega

/-- Update `n` of the scatter of ones lands at `c` exactly when sample `n`'s label is `c`. -/
theorem dOne_lands (idx : IVec S4096x1 32) (n : Fin 4096) (c : Fin 1000) :
    dOne.resultIdx? (ix1 n) idx = some (ix1 c) ↔ (idx (ix2 n 0)).toInt = (c.val : ℤ) := by
  rw [Routing.resultIdx?_eq_some]
  have e0 := dOne_start0 idx n
  have w0 : dOne.window (ix1 n) 0 = 0 := rfl
  constructor
  · intro q
    have q0 := q 0
    rw [e0, w0] at q0
    change _ = (c.val : ℤ) at q0
    omega
  · intro q a
    match a with
    | ⟨0, _⟩ => show dOne.start (ix1 n) idx 0 + (dOne.window (ix1 n) 0 : ℤ) = (c.val : ℤ); rw [e0, w0]; omega

/-- The scatter of the samples leaves, at `(c, k, h, w)`, what was there plus the sum over the samples of class `c`. -/
theorem scatter_sum (x0 : FVec Ideal S1000x64x14x14 .f32) (idx : IVec S4096x1 32) (upd : FVec Ideal S4096x64x14x14 .f32)
    (c : Fin 1000) (k : Fin 64) (h w : Fin 14) :
    Host.scatterAdd (F := Ideal) dSum x0 idx upd (ix4 c k h w)
      = x0 (ix4 c k h w) + classSum (fun n => idx (ix2 n 0)) c.val fun n => upd (ix4 n k h w) := by
  show x0 (ix4 c k h w) + ∑ j ∈ Finset.univ.filter (fun j => dSum.resultIdx? j idx = some (ix4 c k h w)), upd j = _
  refine congrArg (x0 (ix4 c k h w) + ·) ?_
  rw [Finset.sum_filter]
  refine (sum_idx4 _).trans (Finset.sum_congr rfl fun n _ => ?_)
  simp only [dSum_lands]
  by_cases e : (idx (ix2 n 0)).toInt = (c.val : ℤ)
  · simp only [e, true_and, if_true]
    rw [Finset.sum_eq_single k, Finset.sum_eq_single h, Finset.sum_eq_single w]
    · rw [if_pos ⟨rfl, rfl, rfl⟩]
    · intro b _ hb; exact if_neg fun q => hb q.2.2
    · intro hb; exact absurd (Finset.mem_univ _) hb
    · intro b _ hb; exact Finset.sum_eq_zero fun _ _ => if_neg fun q => hb q.2.1
    · intro hb; exact absurd (Finset.mem_univ _) hb
    · intro b _ hb; exact Finset.sum_eq_zero fun _ _ => Finset.sum_eq_zero fun _ _ => if_neg fun q => hb q.1
    · intro hb; exact absurd (Finset.mem_univ _) hb
  · simp only [e, false_and, if_false, Finset.sum_const_zero]

/-- Adding one for each member of a list that has `p` counts them. -/
theorem foldl_ones {α : Type} (p : α → Prop) [DecidablePred p] (l : List α) (a : ℕ) :
    l.foldl (fun (b : BitVec 32) n => if p n then IntOp.addi b 1#32 else b) (BitVec.ofNat 32 a)
      = BitVec.ofNat 32 (a + l.countP fun n => decide (p n)) := by
  induction l generalizing a with
  | nil => rfl
  | cons n l ih =>
    rw [List.foldl_cons, List.countP_cons]
    by_cases e : p n
    · have s : IntOp.addi (BitVec.ofNat 32 a) 1#32 = BitVec.ofNat 32 (a + 1) := (BitVec.ofNat_add a 1).symm
      rw [if_pos e, if_pos (decide_eq_true e), s, ih]
      congr 1
      omega
    · rw [if_neg e, if_neg (by simpa using e), ih, Nat.add_zero]

/-- The scatter of ones into zeros leaves, at `c`, the number of the samples of class `c`. -/
theorem scatter_ones (idx : IVec S4096x1 32) (x0 : IVec S1000 32) (hx0 : ∀ i, x0 i = 0#32) (upd : IVec S4096 32)
    (hu : ∀ i, upd i = 1#32) (c : Fin 1000) :
    Host.scatter dOne IntOp.addi x0 idx upd (ix1 c) = BitVec.ofNat 32 (tally (fun n => idx (ix2 n 0)) c.val) := by
  rw [Routing.scatter_at, hx0]
  simp only [hu]
  rw [show (0#32 : BitVec 32) = BitVec.ofNat 32 0 from rfl, foldl_ones, Nat.zero_add]
  congr 1
  have e : ∀ l : List (Fin S4096.numel), l.Nodup →
      l.countP (fun n => decide (dOne.resultIdx? (S4096.rowMajor.symm n) idx = some (ix1 c)))
        = (l.toFinset.filter fun n => dOne.resultIdx? (S4096.rowMajor.symm n) idx = some (ix1 c)).card := by
    intro l hl
    rw [List.countP_eq_length_filter, ← List.toFinset_card_of_nodup (hl.filter _), List.toFinset_filter]
    simp
  rw [e _ (List.nodup_finRange _), List.toFinset_finRange]
  unfold tally
  refine Finset.card_bij (fun n _ => S4096.rowMajor.symm n 0) ?_ ?_ ?_
  · intro n hn
    have hn2 := (Finset.mem_filter.1 hn).2
    refine Finset.mem_filter.2 ⟨Finset.mem_univ _, (dOne_lands idx _ c).1 ?_⟩
    exact (congrArg (fun i => dOne.resultIdx? i idx) (eq_ix1 (S4096.rowMajor.symm n)).symm).trans hn2
  · intro a _ b _ hab
    apply S4096.rowMajor.symm.injective
    exact (eq_ix1 (S4096.rowMajor.symm a)).trans ((congrArg ix1 hab).trans (eq_ix1 (S4096.rowMajor.symm b)).symm)
  · intro n hn
    refine ⟨S4096.rowMajor (ix1 n), ?_, ?_⟩
    · refine Finset.mem_filter.2 ⟨Finset.mem_univ _, ?_⟩
      rw [Equiv.symm_apply_apply]
      exact (dOne_lands idx n c).2 (Finset.mem_filter.1 hn).2
    · rw [Equiv.symm_apply_apply]
      rfl

end Cert.ClassMean

end
-- ==== Proof.Reference.lean ====
/- What the reference computes: with no label negative, its composed term is the mean of each class. -/
module

public import proofs.«01_k».proof.Proof.Landing
public import proofs.«01_k».proof.Proof.Gen.ReferenceIdeal.Run
public import proofs.«01_k».proof.Pre_labels_not_negative
public import Idealize.ShloMosaic.Lib.ReduceAll
public import Idealize.ShloMosaic.Lib.Affine

@[expose] public section

set_option maxRecDepth 16384

noncomputable section

namespace Cert.ClassMean

open Idealize.ShloMosaic Cert.ReferenceIdeal Cert.ReferenceIdeal.Gen

/-- The result both programs compute: at `(c, k, h, w)` the mean of `x[·, k, h, w]` over the samples of class `c`. -/
def result (x : FVec Ideal S4096x64x14x14 .f32) (lab : IVec S4096 32) : FVec Ideal S1000x64x14x14 .f32 :=
  fun j => classMean (fun n => lab (ix1 n)) (j 0).val fun n => x (ix4 n (j 1) (j 2) (j 3))

/-- The side conditions of the precondition's operations hold. -/
instance preFacts : Cert.Pre_labels_not_negative.Facts where
  bcast_S_S4096 := by decide
  reducesTo_S4096_S_d0 := by decide
  h_S_ := by decide

/-- The precondition says that no label is negative. -/
theorem label_nonneg (x : FVec Ideal S4096x64x14x14 .f32) (lab : IVec S4096 32)
    (h : Cert.Pre_labels_not_negative.fn (F := Ideal) x lab = fun _ => 1#1) (i : S4096.Idx) : 0 ≤ (lab i).toInt := by
  have h0 := congrFun h ix0
  dsimp only [Cert.Pre_labels_not_negative.fn] at h0
  haveI : Subsingleton Cert.Pre_labels_not_negative.S_.Idx := ⟨fun _ _ => funext fun a => a.elim0⟩
  have h1 := Host.reduce_andi_all _ _ _ _ _ h0 i
  exact IntOp.cmpi_sge.1 h1

/-- A label that is not negative is not wrapped. -/
theorem wrap_id (lab : IVec S4096 32) (h : ∀ i, 0 ≤ (lab i).toInt) :
    select (cmpi .slt lab (broadcastInDim S4096 ![] bcast_S_S4096 (constantI S_ 32 0#32)))
      (addi lab (broadcastInDim S4096 ![] bcast_S_S4096 (constantI S_ 32 1000#32))) lab = lab := by
  funext i
  refine Routing.wrap_of_lt _ _ ?_
  have := h i
  have e := BitVec.toInt_eq_toNat_cond (lab i)
  have := (lab i).isLt
  split at e <;> omega

/-- A label that is not negative is not clipped. -/
theorem clip_id (lab : IVec S4096 32) (h : ∀ i, 0 ≤ (lab i).toInt) :
    maxsi (broadcastInDim S4096 ![] bcast_S_S4096 (id (constantI S_ 32 0#32))) lab = lab := by
  funext i
  have := h i
  show (if BitVec.slt (lab i) 0#32 then 0#32 else lab i) = lab i
  rw [if_neg]
  rw [BitVec.slt_iff_toInt_lt]
  show ¬(lab i).toInt < 0
  omega

/-- The labels as a one-column array of scatter indices, at a sample. -/
theorem column_apply (lab : IVec S4096 32) (n : Fin 4096) :
    broadcastInDim S4096x1 ![0] bcast_S4096_S4096x1_0 lab (ix2 n 0) = lab (ix1 n) := by
  pointwise

/-- The scatter of ones as a real number: the number of the samples of a class, which no word wraps around at. -/
theorem tally_toInt (lab : Fin 4096 → BitVec 32) (c : ℕ) : (BitVec.ofNat 32 (tally lab c)).toInt = (tally lab c : ℤ) := by
  have := tally_le lab c
  rw [BitVec.toInt_eq_toNat_of_lt] <;> rw [BitVec.toNat_ofNat, Nat.mod_eq_of_lt (by omega)]
  omega

/-- The quotient the reference ends in, at `(c, k, p, q)`: the divisor is class `c`'s count, or one where that is zero. -/
theorem quotient_read (S : FVec Ideal S1000x64x14x14 .f32) (C : IVec S1000 32) (c : Fin 1000) (k : Fin 64) (p q : Fin 14) :
    Host.divf (F := Ideal) S (broadcastInDim S1000x64x14x14 ![0, 1, 2, 3] bcast_S1000x1x1x1_S1000x64x14x14_0_1_2_3
        (broadcastInDim S1000x1x1x1 ![0] bcast_S1000_S1000x1x1x1_0
          (select (cmpf .oeq (sitofp .f32 C : FVec Ideal S1000 .f32) (broadcastInDim S1000 ![] bcast_S_S1000 (constant S_ .f32 0x00000000#32)))
            (broadcastInDim S1000 ![] bcast_S_S1000 (id (constant S_ .f32 0x3F800000#32))) (sitofp .f32 C)))) (ix4 c k p q)
      = Ideal.div (S (ix4 c k p q)) (if (C (ix1 c)).toInt = 0 then 1 else (((C (ix1 c)).toInt : ℝ) : EReal)) := by
  pointwise
  refine congrArg _ (if_congr ?_ Ideal.ofBits_one_f32 rfl)
  show (((C (ix1 c)).toInt : ℝ) : EReal) = ((0 : ℝ) : EReal) ↔ _
  rw [EReal.coe_eq_coe_iff, Int.cast_eq_zero]

/-- The array the reference sums into starts at zero. -/
theorem zeros_apply (j : S1000x64x14x14.Idx) :
    (broadcastInDim S1000x64x14x14 ![] bcast_S_S1000x64x14x14 (constant S_ .f32 0x00000000#32) : FVec Ideal S1000x64x14x14 .f32) j = (0 : EReal) := by
  pointwise

/-- The reference's composed term is the mean of each class, where no label is negative. -/
theorem reference_eq (x : FVec Ideal S4096x64x14x14 .f32) (lab : IVec S4096 32) (h : ∀ i, 0 ≤ (lab i).toInt) :
    Host.divf (F := Ideal) (Host.scatterAdd scatter_S1000x64x14x14_S4096x1_S4096x64x14x14_123_0_0_1 (broadcastInDim S1000x64x14x14 ![] bcast_S_S1000x64x14x14 (constant S_ .f32 0x00000000#32)) (broadcastInDim S4096x1 ![0] bcast_S4096_S4096x1_0 (select (cmpi .slt lab (broadcastInDim S4096 ![] bcast_S_S4096 (constantI S_ 32 0#32))) (addi lab (broadcastInDim S4096 ![] bcast_S_S4096 (constantI S_ 32 1000#32))) lab)) x) (broadcastInDim S1000x64x14x14 ![0, 1, 2, 3] bcast_S1000x1x1x1_S1000x64x14x14_0_1_2_3 (broadcastInDim S1000x1x1x1 ![0] bcast_S1000_S1000x1x1x1_0 (select (cmpf .oeq (sitofp .f32 (Host.scatter scatter_S1000_S4096x1_S4096_n_0_0_1 IntOp.addi (broadcastInDim S1000 ![] bcast_S_S1000 (constantI S_ 32 0#32)) (broadcastInDim S4096x1 ![0] bcast_S4096_S4096x1_0 (select (cmpi .slt (maxsi (broadcastInDim S4096 ![] bcast_S_S4096 (id (constantI S_ 32 0#32))) lab) (broadcastInDim S4096 ![] bcast_S_S4096 (constantI S_ 32 0#32))) (addi (maxsi (broadcastInDim S4096 ![] bcast_S_S4096 (id (constantI S_ 32 0#32))) lab) (broadcastInDim S4096 ![] bcast_S_S4096 (constantI S_ 32 1000#32))) (maxsi (broadcastInDim S4096 ![] bcast_S_S4096 (id (constantI S_ 32 0#32))) lab))) (broadcastInDim S4096 ![] bcast_S_S4096 (constantI S_ 32 1#32))) : FVec Ideal S1000 .f32) (broadcastInDim S1000 ![] bcast_S_S1000 (constant S_ .f32 0x00000000#32))) (broadcastInDim S1000 ![] bcast_S_S1000 (id (constant S_ .f32 0x3F800000#32))) (sitofp .f32 (Host.scatter scatter_S1000_S4096x1_S4096_n_0_0_1 IntOp.addi (broadcastInDim S1000 ![] bcast_S_S1000 (constantI S_ 32 0#32)) (broadcastInDim S4096x1 ![0] bcast_S4096_S4096x1_0 (select (cmpi .slt (maxsi (broadcastInDim S4096 ![] bcast_S_S4096 (id (constantI S_ 32 0#32))) lab) (broadcastInDim S4096 ![] bcast_S_S4096 (constantI S_ 32 0#32))) (addi (maxsi (broadcastInDim S4096 ![] bcast_S_S4096 (id (constantI S_ 32 0#32))) lab) (broadcastInDim S4096 ![] bcast_S_S4096 (constantI S_ 32 1000#32))) (maxsi (broadcastInDim S4096 ![] bcast_S_S4096 (id (constantI S_ 32 0#32))) lab))) (broadcastInDim S4096 ![] bcast_S_S4096 (constantI S_ 32 1#32)))))))
      = result x lab := by
  simp only [clip_id lab h, wrap_id lab h]
  funext j
  obtain ⟨c, k, p, q, rfl⟩ : ∃ (c : Fin 1000) (k : Fin 64) (p q : Fin 14), j = ix4 c k p q := ⟨j 0, j 1, j 2, j 3, eq_ix4 j⟩
  rw [quotient_read, scatter_sum, scatter_ones _ (broadcastInDim S1000 ![] bcast_S_S1000 (constantI S_ 32 0#32)) (fun _ => rfl)
    (broadcastInDim S4096 ![] bcast_S_S4096 (constantI S_ 32 1#32)) fun _ => rfl]
  have hc : (fun n => broadcastInDim S4096x1 ![0] bcast_S4096_S4096x1_0 lab (ix2 n 0)) = fun n => lab (ix1 n) := funext (column_apply lab)
  rw [hc, tally_toInt, zeros_apply, zero_add]
  refine (congrArg (Ideal.div _) (if_congr Int.natCast_eq_zero rfl ?_)).trans (div_tally _ _ _)
  rw [Int.cast_natCast]

end Cert.ClassMean

end
-- ==== Proof.Array.lean ====
/- What the arrays hold: the rows that the launch reads, the scratch carried from point to point, and
   the array of means when every block has been stored. -/
module

public import proofs.«01_k».proof.Proof.Body
public import proofs.«01_k».proof.Proof.Reference
public import Idealize.ShloMosaic.Lib.Claim
public import Idealize.ShloMosaic.Lib.StableHlo.ReadAt

@[expose] public section

set_option maxRecDepth 16384

noncomputable section

namespace Cert.ClassMean

open Idealize.ShloMosaic Idealize.ShloMosaic.TcCoe Cert.KernelIdeal Cert.KernelIdeal.Gen

variable (m : (ℓ : Loc nD τ sig) → Buf (Elt Ideal) ℓ)

/-- The samples as the launch is given them. -/
abbrev samples (c : Dev nD) : FVec Ideal S4096x64x14x14 .f32 := m ((c : Thread nD τ).loc main_arg0)

/-- The labels as the launch is given them. -/
abbrev labels (c : Dev nD) : IVec S4096 32 := m ((c : Thread nD τ).loc main_arg1)

/-- Feature `f` of sample `n`, the features counted row by row of the image, then column, then channel. -/
def feature (x : FVec Ideal S4096x64x14x14 .f32) (f : Fin 12544) (n : Fin 4096) : EReal :=
  x (ix4 n ⟨f.val % 64, by omega⟩ ⟨f.val / 896, by omega⟩ ⟨f.val / 64 % 14, by omega⟩)

/-- The feature at a channel, a row and a column. -/
theorem feature_at (x : FVec Ideal S4096x64x14x14 .f32) (k : Fin 64) (h w : Fin 14) (n : Fin 4096)
    (hf : h.val * 896 + w.val * 64 + k.val < 12544) :
    feature x ⟨h.val * 896 + w.val * 64 + k.val, hf⟩ n = x (ix4 n k h w) := by
  unfold feature
  congr 2 <;> refine Fin.ext ?_ <;> dsimp only <;> omega

/-- The labels as a column. -/
def column (lab : IVec S4096 32) : Vec Ideal S4096x1 .i32 := fun j => lab (ix1 (j 0))

/-- The block indices of the three windows at each point. -/
theorem indices : ∀ t : Fin grid0.N, win0_0.index t = ![t.val, 0] ∧ win0_1.index t = ![0, 0] ∧ win0_2.index t = ![t.val, 0] := by
  decide +kernel

/-- The host's reshaped labels are the labels as a column. -/
theorem entry_labels (c : Dev nD) : V m c main_v2 = column (labels m c) := by
  funext i
  unfold V V0
  rw [List.flatten_singleton]
  after_reads_simp
  idx_vars i
  pointwise
  rfl

/-- The host's transposed and reshaped samples hold a row per feature. -/
theorem entry_samples (c : Dev nD) (f : Fin 12544) (n : Fin 4096) :
    V m c main_v1 (ix2 f n) = feature (samples m c) f n := by
  unfold V V0
  rw [List.flatten_singleton]
  after_reads_simp
  pointwise
  rfl

/-- Every point sees the whole column of labels. -/
theorem labels_block (c : Dev nD) (t : Fin cfg0.N) : iblk m c 1 t = column (labels m c) := by
  rw [← entry_labels]
  funext y
  blk_ext [iblk, indices]

/-- The samples' block at a point holds that point's 896 features of every sample. -/
theorem samples_block (c : Dev nD) (t : Fin cfg0.N) (r : Fin 896) (n : Fin 4096) :
    iblk m c 0 t (ix2 r n)
      = feature (samples m c) ⟨t.val * 896 + r.val, by have h : t.val < 14 := lt_of_lt_of_eq t.isLt N_0; omega⟩ n := by
  rw [← entry_samples]
  blk_ext [iblk, indices]

/-- The scratch after any point is what the first point put there. -/
theorem scratch_held (c : Dev nD) (t : Fin cfg0.N) :
    (outsAt0 m c t.val t.isLt).2 = (onehot (column (labels m c)), recips (column (labels m c))) := by
  obtain ⟨n, hn⟩ := t
  induction n with
  | zero =>
    rw [outsAt0_A m c ⟨0, hn⟩ rfl]
    dsimp only
    rw [sout_A0, sout_A1, labels_block]
  | succ n ih =>
    have h : ¬ (⟨n + 1, hn⟩ : Fin cfg0.N).val % 14 = 0 := by
      have h14 : n + 1 < 14 := lt_of_lt_of_eq hn N_0
      show ¬ (n + 1) % 14 = 0
      omega
    rw [outsAt0_B m c ⟨n + 1, hn⟩ h]
    exact ih (Nat.lt_of_succ_lt hn)

/-- The block that a point stores. -/
theorem stored_block (c : Dev nD) (t : Fin cfg0.N) :
    (outsAt0 m c t.val t.isLt).1
      = block (iblk m c 0 t) (onehot (column (labels m c))) (recips (column (labels m c))) := by
  by_cases h : t.val % 14 = 0
  · rw [outsAt0_A m c t h]
    dsimp only
    rw [out_A, labels_block]
  · have hs := scratch_held m c ⟨t.val - 1, Nat.lt_of_le_of_lt (Nat.sub_le _ _) t.isLt⟩
    rw [outsAt0_B m c t h]
    dsimp only
    dsimp only at hs
    rw [out_B, congrArg Prod.fst hs, congrArg Prod.snd hs]

/-- The array of means: a row per feature, a column per class. -/
def means (x : FVec Ideal S4096x64x14x14 .f32) (lab : IVec S4096 32) : Vec Ideal S12544x1000 .f32 :=
  fun i => classMean (fun n => lab (ix1 n)) (i 1).val fun n => feature x (i 0) n

/-- An element of a stored block is a mean of one feature over one class. -/
theorem block_means (x0 : Vec Ideal S896x4096 .f32) (lab : IVec S4096 32) (r : Fin 896) (c : Fin 1000) :
    block x0 (onehot (column lab)) (recips (column lab)) (ix2 r c)
      = classMean (fun n => lab (ix1 n)) c.val fun n => x0 (ix2 r n) := by
  unfold classMean
  rw [← sum_mul_mark]
  rfl

/-- After the launch the output array holds the means. -/
theorem array_means (c : Dev nD) : (dats m 0 c).arrAt 2 cfg0.N = means (samples m c) (labels m c) := by
  refine (dats m 0 c).arrAt_eq_of_covers 2 _ (by decide +kernel) fun t hf y => ?_
  blk_simp
  rw [after0_2, stored_block]
  obtain ⟨r, k, rfl⟩ : ∃ (r : Fin 896) (k : Fin 1000), y = ix2 r k := ⟨y 0, y 1, eq_ix2 y⟩
  have ht : t.val < 14 := lt_of_lt_of_eq t.isLt N_0
  have e : (win0_2.blk t).view.emb (ix2 r k) = ix2 (⟨t.val * 896 + r.val, by omega⟩ : Fin 12544) k := by
    blk_ext [indices]
  rw [block_means, e]
  unfold means
  exact congrArg (classMean _ _) (funext fun n => samples_block m c t r n)

/-- The host's last two operations put the means in place: channel, row and column of a class's mean. -/
theorem result_means (c : Dev nD) :
    Pipeline.afterTail₀ cfgs (dats m) 0 (V0 m) [hostOps1] c main_v5 = result (samples m c) (labels m c) := by
  have h3 : Pipeline.withArrays (cfgs 0).spec c (V0 m c) (fun w => (dats m 0 c).arrAt w (cfgs 0).N) (Proc.devRef .tc main_v3)
      = means (samples m c) (labels m c) :=
    (Pipeline.withArrays_arr spec0 (by decide) c (V0 m c) (fun w => (dats m 0 c).arrAt w cfg0.N) 2).trans (array_means m c)
  unfold Pipeline.afterTail₀
  rw [List.flatten_singleton]
  funext j
  after_reads_simp
  rw [h3]
  idx_vars j
  pointwise
  exact congrArg (classMean _ _) (funext fun n => feature_at (samples m c) j1 j2 j3 n _)

end Cert.ClassMean

end
-- ==== Proof.lean ====
/- The claims of this certificate, put together: the kernel's frames, the reference's frame, and the
   equation of the two results under labels that are not negative. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Array
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Idealize.ShloMosaic.TcCoe

/-- The kernel's run over the extended reals: its result is the classes' means, its arguments are kept. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      fun r => ∀ c : Dev Cert.KernelIdeal.nD,
        r.2.mem ((c.tc : Thread Cert.KernelIdeal.nD Cert.KernelIdeal.τ).loc Cert.KernelIdeal.main_v5)
            = Cert.ClassMean.result (Cert.ClassMean.samples m c) (Cert.ClassMean.labels m c)
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1) :=
  θ_run_mono (Cert.KernelIdeal.Gen.run_main m g) fun r h c =>
    ⟨((h c).2 Cert.KernelIdeal.main_v5 (Pipeline.mem_restRefs_of Cert.KernelIdeal.main_v5 (by decide) (by decide))).trans
        (Cert.ClassMean.result_means m c),
      ((h c).2 Cert.KernelIdeal.main_arg0 (Pipeline.mem_restRefs_of Cert.KernelIdeal.main_arg0 (by decide) (by decide))).trans
        (Cert.KernelIdeal.Gen.W_main_arg0 m _ c),
      ((h c).2 Cert.KernelIdeal.main_arg1 (Pipeline.mem_restRefs_of Cert.KernelIdeal.main_arg1 (by decide) (by decide))).trans
        (Cert.KernelIdeal.Gen.W_main_arg1 m _ c)⟩

/-- The reference's frame: it keeps its arguments and leaves every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  θ_run_mono (Cert.ReferenceIdeal.Value.run m g) fun r h =>
    ⟨fun c => (h c).2, sem_eq_zero_of_no_sems (by decide) r.2⟩

/-- Every claim of the certificate. -/
theorem claim : Cert.Claim :=
  ⟨Cert.Kernel.Gen.facts, Cert.KernelIdeal.Gen.facts, Cert.ReferenceIdeal.Gen.facts, Cert.ClassMean.preFacts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial,
    fun m g m' g' hpre hagree =>
      ⟨fun c => Cert.ClassMean.result (Cert.ClassMean.samples m c) (Cert.ClassMean.labels m c),
        kernel_run m g,
        θ_run_mono (Cert.ReferenceIdeal.Value.run m' g') fun r h c => by
          refine ⟨(h c).1.trans ?_, (h c).2⟩
          rw [(hagree c).1, (hagree c).2]
          exact Cert.ClassMean.reference_eq _ _ (Cert.ClassMean.label_nonneg _ _ (hpre c))⟩⟩

end Cert.Proof

end
